-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v3)) (v1 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_v4) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v16) = v0 c
          ∧ r.2.mem ((c.tc : Thread Cert.Reference.nD Cert.Reference.τ).loc Cert.Reference.main_v17) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16x8x8x128 : Shape := ⟨4, ![16, 8, 8, 128]⟩
abbrev S16x8x4096x128 : Shape := ⟨4, ![16, 8, 4096, 128]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S16 : Shape := ⟨1, ![16]⟩

abbrev nBuf : Table → Nat
  | .hbm => 10
  | .local .scVector .vmem => 3
  | _ => 0

abbrev bufTy : (tb : Table) → Fin (nBuf tb) → BufTy
  | .hbm, ⟨0, _⟩ => ⟨S16x8x8x128, .f32⟩
  | .hbm, ⟨1, _⟩ => ⟨S16x8x8x128, .f32⟩
  | .hbm, ⟨2, _⟩ => ⟨S16x8x4096x128, .f32⟩
  | .hbm, ⟨3, _⟩ => ⟨S16x8x4096x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S16x8x8x128, .f32⟩
  | .hbm, ⟨9, _⟩ => ⟨S16x8x8x128, .f32⟩
  | .local .scVector .vmem, ⟨0, _⟩ => ⟨S32, .i32⟩
  | .local .scVector .vmem, ⟨1, _⟩ => ⟨S32x128, .f32⟩
  | .local .scVector .vmem, ⟨2, _⟩ => ⟨S32x128, .f32⟩
  | _, _ => ⟨S16x8x8x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v0_scv : Ref sig .scVector := ⟨.hbm, 4, rfl⟩
abbrev main_v1_scv : Ref sig .scVector := ⟨.hbm, 5, rfl⟩
abbrev main_v2_0_scv : Ref sig .scVector := ⟨.hbm, 6, rfl⟩
abbrev main_v2_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_8_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16x8x8x128 : Shape := ⟨4, ![16, 8, 8, 128]⟩
abbrev S16x8x4096x128 : Shape := ⟨4, ![16, 8, 4096, 128]⟩
abbrev S4096 : Shape := ⟨1, ![4096]⟩
abbrev S8 : Shape := ⟨1, ![8]⟩
abbrev S_ : Shape := ⟨0, ![]⟩
abbrev S8x1 : Shape := ⟨2, ![8, 1]⟩

abbrev nBuf : Space → Nat
  | .hbm => 26
  | .vmem => 0
  | .smem => 0
  | _ => 0

abbrev bufTy : (tb : Table) → Fin (tcTables nBuf tb) → BufTy
  | .hbm, ⟨0, _⟩ => ⟨S16x8x8x128, .f32⟩
  | .hbm, ⟨1, _⟩ => ⟨S16x8x8x128, .f32⟩
  | .hbm, ⟨2, _⟩ => ⟨S16x8x4096x128, .f32⟩
  | .hbm, ⟨3, _⟩ => ⟨S16x8x4096x128, .f32⟩
  | .hbm, ⟨4, _⟩ => ⟨S4096, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i1⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S8x1, .i32⟩
  | .hbm, ⟨14, _⟩ => ⟨S16x8x4096x128, .f32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S16x8x4096x128, .f32⟩
  | .hbm, ⟨24, _⟩ => ⟨S16x8x8x128, .f32⟩
  | .hbm, ⟨25, _⟩ => ⟨S16x8x8x128, .f32⟩
  | _, _ => ⟨S16x8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Common.lean ====
/-
  The set-up of the run of `KernelIdeal`: the program as the launch theorem sees it, the arrays the SparseCore call reads and
  writes, and the block of rows each of the 32 vector subcores works on.

  The call moves two arrays of 1024 rows of 128 numbers. Vector subcore `s` of SparseCore `c` has number `2 s + c`, and works
  on the 32 rows from `32 (2 s + c)` on, of both.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores of sixteen vector subcores each. -/
theorem nCore_zero : (K (F := F)).nCore 0 = 2 := rfl
theorem nSub_zero : (K (F := F)).nSub 0 = 16 := rfl

/-- What the launch theorem asks of the launch semaphores and of the SparseCores' buffers, each by evaluation. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The program's four arguments, the call's two operands and two results, the program's two results. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev kLoc (d : Dev nD) : Loc nD τ sig := (SparseCore.T d).loc main_v0
abbrev vLoc (d : Dev nD) : Loc nD τ sig := (SparseCore.T d).loc main_v1
abbrev koLoc (d : Dev nD) : Loc nD τ sig := (SparseCore.T d).loc main_v2_0
abbrev voLoc (d : Dev nD) : Loc nD τ sig := (SparseCore.T d).loc main_v2_1
abbrev r0Loc (d : Dev nD) : Loc nD τ sig := (SparseCore.T d).loc main_v3
abbrev r1Loc (d : Dev nD) : Loc nD τ sig := (SparseCore.T d).loc main_v4

/-- The first argument as 1024 rows of 128 numbers: what the call reads first. -/
def kRows (d : Dev nD) : S1024x128.Idx → Elt F .f32 := shapeCast S1024x128 (m (a0Loc d)) shapeCasts_S16x8x8x128_S1024x128
/-- The second argument as 1024 rows of 128 numbers: what the call reads second. -/
def vRows (d : Dev nD) : S1024x128.Idx → Elt F .f32 := shapeCast S1024x128 (m (a1Loc d)) shapeCasts_S16x8x8x128_S1024x128

/-! ## The blocks of rows -/

/-- The first row of vector subcore `s` of SparseCore `c`. -/
abbrev base (c s : ℕ) : ℕ := 64 * s + 32 * c

/-- The elements of the 32 rows from row `base c s` on. -/
def blk (c s : ℕ) : Finset S1024x128.Idx := Finset.univ.filter fun i => base c s ≤ (i 0).val ∧ (i 0).val < base c s + 32

/-- An element is in a block when its row is. -/
theorem mem_blk {c s : ℕ} {i : S1024x128.Idx} : i ∈ blk c s ↔ base c s ≤ (i 0).val ∧ (i 0).val < base c s + 32 := by
  simp [blk]

/-- One SparseCore's sixteen blocks. -/
def coreBlk (c : ℕ) : Finset S1024x128.Idx := Finset.univ.biUnion fun s : Fin 16 => blk c s.val

/-- An element is in a SparseCore's blocks when its row is in one of the sixteen. -/
theorem mem_coreBlk {c : ℕ} {i : S1024x128.Idx} : i ∈ coreBlk c ↔ ∃ s : Fin 16, base c s.val ≤ (i 0).val ∧ (i 0).val < base c s.val + 32 := by
  simp [coreBlk, mem_blk]

/-- Two subcores of a SparseCore have no element in common. -/
theorem blk_disjoint (c : Fin 2) :
    ∀ s ∈ (Finset.univ : Finset (Fin 16)), ∀ s' ∈ (Finset.univ : Finset (Fin 16)), s ≠ s' → Disjoint (blk c.val s.val) (blk c.val s'.val) := by
  intro s _ s' _ h
  rw [Finset.disjoint_left]
  intro i hi hi'
  have h1 := mem_blk.mp hi
  have h2 := mem_blk.mp hi'
  simp only [base] at h1 h2
  exact h (Fin.ext (by omega))

/-- Nor have the two SparseCores. -/
theorem coreBlk_disjoint :
    ∀ c ∈ (Finset.univ : Finset (Fin 2)), ∀ c' ∈ (Finset.univ : Finset (Fin 2)), c ≠ c' → Disjoint (coreBlk c.val) (coreBlk c'.val) := by
  intro c _ c' _ h
  rw [Finset.disjoint_left]
  intro i hi hi'
  obtain ⟨s, h1⟩ := mem_coreBlk.mp hi
  obtain ⟨s', h2⟩ := mem_coreBlk.mp hi'
  simp only [base] at h1 h2
  exact h (Fin.ext (by omega))

/-- The two SparseCores' blocks are every element. -/
theorem coreBlk_cover : (Finset.univ : Finset (Fin 2)).biUnion (fun c => coreBlk c.val) = Finset.univ := by
  refine Finset.eq_univ_of_forall fun i => ?_
  have hi : (i 0).val < 1024 := (i 0).isLt
  refine Finset.mem_biUnion.mpr ⟨⟨(i 0).val / 32 % 2, by omega⟩, Finset.mem_univ _, mem_coreBlk.mpr ⟨⟨(i 0).val / 64, by omega⟩, ?_, ?_⟩⟩ <;>
    simp only [base] <;> omega

/-- An array of 1024 rows held whole is its 32 blocks held, sixteen by SparseCore. -/
theorem pointsTo_blocks (ℓ : Loc nD τ sig) (f : Buf (Elt F) ℓ) (B : ℕ → ℕ → Finset (Idx ℓ)) (C : ℕ → Finset (Idx ℓ))
    (hC : ∀ c, C c = Finset.univ.biUnion fun s : Fin 16 => B c s.val)
    (hB : ∀ c : Fin 2, ∀ s ∈ (Finset.univ : Finset (Fin 16)), ∀ s' ∈ (Finset.univ : Finset (Fin 16)), s ≠ s' → Disjoint (B c.val s.val) (B c.val s'.val))
    (hd : ∀ c ∈ (Finset.univ : Finset (Fin 2)), ∀ c' ∈ (Finset.univ : Finset (Fin 2)), c ≠ c' → Disjoint (C c.val) (C c'.val))
    (hu : (Finset.univ : Finset (Fin 2)).biUnion (fun c => C c.val) = Finset.univ) :
    (ℓ ↦{fullShare} f : sProp 𝕄) = bigSep Finset.univ fun c : Fin 2 => bigSep Finset.univ fun s : Fin 16 => ℓ ↦[B c.val s.val]{fullShare} f := by
  have h : (ℓ ↦{fullShare} f : sProp 𝕄) = bigSep Finset.univ fun c : Fin 2 => ℓ ↦[C c.val]{fullShare} f := by
    rw [← pointsTo_biUnion Finset.univ (ℓ := ℓ) (fun c : Fin 2 => C c.val) hd, hu]
  rw [h]
  refine bigSep_congr fun c _ => ?_
  rw [hC, pointsTo_biUnion Finset.univ (ℓ := ℓ) (fun s : Fin 16 => B c.val s.val) (hB c)]

end Cert.Proof.Rows

end
-- ==== Proof.Names.lean ====
/-
  The names the kernel's body uses for what the launch deals: a vector subcore's block of each operand and of each result,
  its three scratch buffers and its four semaphores, each as the launch states it and as the body addresses it.
-/
module

public import proofs.«01_k».proof.Proof.Common

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "kV" => (Memref.whole Cert.KernelIdeal.main_v0_scv : Memref Cert.KernelIdeal.sig Kind.scVector Space.hbm Cert.KernelIdeal.S1024x128 EltTy.f32)
local notation "vV" => (Memref.whole Cert.KernelIdeal.main_v1_scv : Memref Cert.KernelIdeal.sig Kind.scVector Space.hbm Cert.KernelIdeal.S1024x128 EltTy.f32)
local notation "koV" => (Memref.whole Cert.KernelIdeal.main_v2_0_scv : Memref Cert.KernelIdeal.sig Kind.scVector Space.hbm Cert.KernelIdeal.S1024x128 EltTy.f32)
local notation "voV" => (Memref.whole Cert.KernelIdeal.main_v2_1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "kbV" => (Memref.whole Cert.KernelIdeal.cc0_scratch1 : Memref Cert.KernelIdeal.sig Kind.scVector Space.vmem Cert.KernelIdeal.S32x128 EltTy.f32)
local notation "vbV" => (Memref.whole Cert.KernelIdeal.cc0_scratch2 : Memref Cert.KernelIdeal.sig Kind.scVector Space.vmem Cert.KernelIdeal.S32x128 EltTy.f32)

variable (m : (ℓ : Loc nD τ sig) → Buf (Elt F) ℓ)

/-- Vector subcore `s` of SparseCore `c`'s block of each array, at given contents. -/
abbrev kPts (d : Dev nD) (c s : ℕ) (f : Buf (Elt F) (kLoc d)) : sProp 𝕄 := kLoc d ↦[blk c s]{fullShare} f
abbrev vPts (d : Dev nD) (c s : ℕ) (f : Buf (Elt F) (vLoc d)) : sProp 𝕄 := vLoc d ↦[blk c s]{fullShare} f
abbrev koPts (d : Dev nD) (c s : ℕ) (f : Buf (Elt F) (koLoc d)) : sProp 𝕄 := koLoc d ↦[blk c s]{fullShare} f
abbrev voPts (d : Dev nD) (c s : ℕ) (f : Buf (Elt F) (voLoc d)) : sProp 𝕄 := voLoc d ↦[blk c s]{fullShare} f

variable (d : Dev nD) (L : grid0.Coords)

/-- The SparseCore and the vector subcore that a place of the kernel's grid names. -/
abbrev cV (L : grid0.Coords) : Fin τ.nSC := (L 0).castLE hcore0
abbrev jV (L : grid0.Coords) : Fin τ.nSub := (L 1).castLE hsub0

/-- The block as a vector subcore addresses it, and a whole result array as it addresses it. -/
abbrev rowK (L : grid0.Coords) : Rect S1024x128 := Rect.unit (s := S1024x128) (k0_off1 L) S32x128.size (k0_off1_inb L)
abbrev kSl (L : grid0.Coords) : Memref sig .scVector .hbm S32x128 .f32 := (kV).slice (rowK L) (fun _ => rfl)
abbrev vSl (L : grid0.Coords) : Memref sig .scVector .hbm S32x128 .f32 := (vV).slice (rowK L) (fun _ => rfl)
abbrev allK : Rect S1024x128 := Rect.unit (s := S1024x128) ![0, 0] S1024x128.size inb_S1024x128_S1024x128_0_0
abbrev koAll : Memref sig .scVector .hbm S1024x128 .f32 := (koV).slice allK (fun _ => rfl)
abbrev voAll : Memref sig .scVector .hbm S1024x128 .f32 := (voV).slice allK (fun _ => rfl)

/-- The rows a subcore slices are its block. -/
theorem set_rowK : (rowK L).set = blk (L 0).val (L 1).val := by
  ext i
  have h1 : (i 1).val < 128 := (i 1).isLt
  rw [Rect.mem_set_unit, k0_off1_eq, mem_blk, Fin.forall_fin_two]
  simp [base]
  omega

/-- So are the elements of its slice of the keys. -/
theorem set_kSl : (kSl L).view.set = blk (L 0).val (L 1).val := by
  show ((View.whole (main_v0_scv : Ref sig .scVector)).slice (rowK L)).set = _
  rw [View.set_slice]; exact (Finset.map_refl).trans (set_rowK L)
/-- And those of its slice of the values. -/
theorem set_vSl : (vSl L).view.set = blk (L 0).val (L 1).val := by
  show ((View.whole (main_v1_scv : Ref sig .scVector)).slice (rowK L)).set = _
  rw [View.set_slice]; exact (Finset.map_refl).trans (set_rowK L)

/-- Its block of the keys is held under the slice's name as under the array's. -/
theorem pts_kSl (f : Buf (Elt F) (kLoc d)) :
    ((kSl L).view.loc (V d (cV L) (jV L)) ↦[(kSl L).view.set]{fullShare} f : sProp 𝕄) = kPts d (L 0).val (L 1).val f := by
  rw [set_kSl]
/-- The same of the values. -/
theorem pts_vSl (f : Buf (Elt F) (vLoc d)) :
    ((vSl L).view.loc (V d (cV L) (jV L)) ↦[(vSl L).view.set]{fullShare} f : sProp 𝕄) = vPts d (L 0).val (L 1).val f := by
  rw [set_vSl]
/-- A scratch buffer is held under the body's name as under its own: the list's, then the two fetched blocks'. -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_kbV (f : Buf (Elt F) ((V d (cV L) (jV L)).loc cc0_scratch1)) :
    ((kbV).view.loc (V d (cV L) (jV L)) ↦{fullShare} f : sProp 𝕄) = (V d (cV L) (jV L)).loc cc0_scratch1 ↦{fullShare} f := rfl
theorem pts_vbV (f : Buf (Elt F) ((V d (cV L) (jV L)).loc cc0_scratch2)) :
    ((vbV).view.loc (V d (cV L) (jV L)) ↦{fullShare} f : sProp 𝕄) = (V d (cV L) (jV L)).loc cc0_scratch2 ↦{fullShare} f := rfl

/-- The four semaphore cells a vector subcore uses: two for the fetches, two for the scatters. -/
abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scoped1.sem)
abbrev cC (d : Dev nD) (c : Fin τ.nSC) (i : Fin τ.nSub) : GSem nD τ sig := (V d c i, .dma cc0_scratch3.sem)
abbrev cD (d : Dev nD) (c : Fin τ.nSC) (i : Fin τ.nSub) : GSem nD τ sig := (V d c i, .dma cc0_scratch4.sem)

/-- A subcore's own semaphores at zero are those four and the rest. -/
theorem ownSems0_V :
    (ownSems0 (V d (cV L) (jV L)) : sProp 𝕄)
      = iprop(semVal (cA d (cV L) (jV L)) 0 ∗ semVal (cB d (cV L) (jV L)) 0 ∗ semVal (cC d (cV L) (jV L)) 0 ∗ semVal (cD d (cV L) (jV L)) 0
          ∗ bigSep (((((ownCells (V d (cV L) (jV L))).erase (cA d (cV L) (jV L))).erase (cB d (cV L) (jV L))).erase (cC d (cV L) (jV L))).erase
              (cD d (cV L) (jV L))) fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scratch3.sem : SemLoc sig).isScoped .scVector = true; decide⟩⟩⟩),
    SparseCore.bigSep_erase' (Finset.mem_erase.mpr ⟨by simp [cC, cD]; decide, Finset.mem_erase.mpr ⟨by simp [cB, cD]; decide,
      Finset.mem_erase.mpr ⟨by simp [cA, cD]; decide,
      (mem_ownCells (g := cD d (cV L) (jV L))).mpr ⟨rfl, by show (SemLoc.dma cc0_scratch4.sem : SemLoc sig).isScoped .scVector = true; decide⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
    Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Cert.Proof.Rows

end
-- ==== Proof.Words.lean ====
/-
  The list of rows a vector subcore writes into its scratch buffer, in 32-bit words. Two stores of sixteen entries make it;
  entry `x` is the number of row `base + x`. So the list names 32 rows of the result, all different, all in range.
-/
module

public import proofs.«01_k».proof.Proof.Names
public import Idealize.ShloMosaic.Lib.WritesUnit
public import Idealize.ShloMosaic.Lib.VecWindow

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "kV" => (Memref.whole Cert.KernelIdeal.main_v0_scv : Memref Cert.KernelIdeal.sig Kind.scVector Space.hbm Cert.KernelIdeal.S1024x128 EltTy.f32)
local notation "vV" => (Memref.whole Cert.KernelIdeal.main_v1_scv : Memref Cert.KernelIdeal.sig Kind.scVector Space.hbm Cert.KernelIdeal.S1024x128 EltTy.f32)
local notation "koV" => (Memref.whole Cert.KernelIdeal.main_v2_0_scv : Memref Cert.KernelIdeal.sig Kind.scVector Space.hbm Cert.KernelIdeal.S1024x128 EltTy.f32)
local notation "voV" => (Memref.whole Cert.KernelIdeal.main_v2_1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "kbV" => (Memref.whole Cert.KernelIdeal.cc0_scratch1 : Memref Cert.KernelIdeal.sig Kind.scVector Space.vmem Cert.KernelIdeal.S32x128 EltTy.f32)
local notation "vbV" => (Memref.whole Cert.KernelIdeal.cc0_scratch2 : Memref Cert.KernelIdeal.sig Kind.scVector Space.vmem Cert.KernelIdeal.S32x128 EltTy.f32)

variable (d : Dev nD) (L : grid0.Coords)

/-! ## The list of row numbers -/

/-- A block lies inside the 1024 rows. -/
theorem base_lt (L : grid0.Coords) : base (L 0).val (L 1).val + 32 ≤ 1024 := by
  have h0 : (L 0).val < 2 := (L 0).isLt
  have h1 : (L 1).val < 16 := (L 1).isLt
  simp only [base]; omega

/-- The first half of the list: entry `x` is row `base + x`. -/
theorem pay1_apply (x : S16.Idx) : (k0_pay1 L x).toNat = base (L 0).val (L 1).val + (x 0).val := by
  have h0 : (L 0).val < 2 := (L 0).isLt
  have h1 : (L 1).val < 16 := (L 1).isLt
  have hx : (x 0).val < 16 := (x 0).isLt
  simp only [k0_pay1, shapeCast, Shape.reshapeEquiv_self, addi, broadcast, iota, Scalar.addi, Scalar.muli, IntOp.addi, IntOp.muli, base,
    List.foldl_cons, List.foldl_nil, BitVec.toNat_add, BitVec.toNat_mul, BitVec.toNat_ofNat, Equiv.refl_apply, id_eq]
  omega

/-- The second half: entry `x` of it is row `base + 16 + x`. -/
theorem pay2_apply (x : S16.Idx) : (k0_pay2 L x).toNat = base (L 0).val (L 1).val + 16 + (x 0).val := by
  have h0 : (L 0).val < 2 := (L 0).isLt
  have h1 : (L 1).val < 16 := (L 1).isLt
  have hx : (x 0).val < 16 := (x 0).isLt
  simp only [k0_pay2, shapeCast, Shape.reshapeEquiv_self, addi, broadcast, iota, Scalar.addi, Scalar.muli, IntOp.addi, IntOp.muli, base,
    List.foldl_cons, List.foldl_nil, BitVec.toNat_add, BitVec.toNat_mul, BitVec.toNat_ofNat, Equiv.refl_apply, id_eq]
  omega

/-- What the list's buffer holds after the two stores, over any earlier contents. -/
abbrev listBuf (L : grid0.Coords) (fs : Buf (Elt F) ((V d (cV L) (jV L)).loc cc0_scratch0)) : Buf (Elt F) ((V d (cV L) (jV L)).loc cc0_scratch0) :=
  (sV).view.writes (Elt F) fs
    [⟨Rect.unit (s := S32) ![16] S16.size inb_S32_S16_16, k0_pay2 L⟩, ⟨Rect.unit (s := S32) ![0] S16.size inb_S32_S16_0, k0_pay1 L⟩]

/-- The place of number `n` among sixteen. -/
def at16 (n : ℕ) (h : n < 16) : S16.Idx := fun | 0 => ⟨n, h⟩

/-- Entry `x` of the list is row `base + x`. -/
theorem list_apply (fs : Buf (Elt F) ((V d (cV L) (jV L)).loc cc0_scratch0)) (x : S32.Idx) :
    ((sV).view.read (Elt F) (listBuf d L fs) x).toNat = base (L 0).val (L 1).val + (x 0).val := by
  have hx : (x 0).val < 32 := (x 0).isLt
  by_cases h : (x 0).val < 16
  · rw [listBuf, View.read_writes_cons_unit_of_not_mem _ _ _ _ _ _ rfl (0 : Fin 1) (Or.inl (by simpa using h)),
      View.read_writes_cons_unit_of_mem _ _ _ _ _ _ (at16 _ h) rfl (fun a => by
        match a with | 0 => exact (show (x 0).val = 0 + (x 0).val by omega))]
    exact pay1_apply L _
  · rw [listBuf, View.read_writes_cons_unit_of_mem _ _ _ _ _ _ (at16 ((x 0).val - 16) (by omega)) rfl (fun a => by
        match a with | 0 => exact (show (x 0).val = 16 + ((x 0).val - 16) by omega))]
    rw [pay2_apply]
    show _ + 16 + ((x 0).val - 16) = _
    omega

/-- Every entry of the list is below 1024. -/
theorem list_in (fs : Buf (Elt F) ((V d (cV L) (jV L)).loc cc0_scratch0)) (x : S32.Idx) :
    ((sV).view.read (Elt F) (listBuf d L fs) x).toNat < S1024x128.size gathers_S1024x128_S32x128.axis := by
  have hx : (x 0).val < 32 := (x 0).isLt
  have := base_lt L
  rw [list_apply]
  show _ < 1024
  omega

/-- The rows the list names, in order. -/
abbrev listRows (fs : Buf (Elt F) ((V d (cV L) (jV L)).loc cc0_scratch0)) :
    Fin (S32x128.size gathers_S1024x128_S32x128.axis') → Fin (S1024x128.size gathers_S1024x128_S32x128.axis) :=
  SparseCore.rows (si := S32) ((sV).view.read (Elt F) (listBuf d L fs)) rfl (list_in d L fs)

/-- Entry `k` names row `base + k`. -/
theorem listRows_val (fs : Buf (Elt F) ((V d (cV L) (jV L)).loc cc0_scratch0)) (k : Fin (S32x128.size gathers_S1024x128_S32x128.axis')) :
    (listRows d L fs k).val = base (L 0).val (L 1).val + k.val := by
  show ((sV).view.read (Elt F) (listBuf d L fs) (S32.rowMajor.symm (k.cast rfl))).toNat = _
  rw [list_apply]
  have h : (S32.rowMajor (S32.rowMajor.symm (k.cast rfl))).val = _ := Shape.rowMajor_val_one (S32.rowMajor.symm (k.cast rfl))
  have h2 : (S32.rowMajor (S32.rowMajor.symm (k.cast rfl))).val = k.val := by rw [Equiv.apply_symm_apply]; rfl
  rw [← h, h2]

/-- No row is named twice. -/
theorem listRows_injective (fs : Buf (Elt F) ((V d (cV L) (jV L)).loc cc0_scratch0)) : Function.Injective (listRows d L fs) := by
  intro k k' h
  have h1 := listRows_val d L fs k
  have h2 := listRows_val d L fs k'
  rw [h] at h1
  exact Fin.ext (by omega)

end Cert.Proof.Rows

end
-- ==== Proof.Rows.lean ====
/-
  The rows the list names, as sets of elements of a result, and what a scatter to them leaves. The rows named are the
  subcore's own block of the result; after the scatter that block holds the same block of the operand.
-/
module

public import proofs.«01_k».proof.Proof.Words

@[expose] public section

noncomputable section

namespace Cert.Proof.Rows

open Cert.KernelIdeal Cert.KernelIdeal.Gen

open Idealize.ShloMosaic
open Idealize.ShloMosaic.SparseCore (S V T)
open Idealize.SL Idealize.SL.RA Idealize.SL.BI

variable {F : FTy → Type}

local notation "kbV" => (Memref.whole Cert.KernelIdeal.cc0_scratch1 : Memref Cert.KernelIdeal.sig Kind.scVector Space.vmem Cert.KernelIdeal.S32x128 EltTy.f32)
local notation "vbV" => (Memref.whole Cert.KernelIdeal.cc0_scratch2 : Memref Cert.KernelIdeal.sig Kind.scVector Space.vmem Cert.KernelIdeal.S32x128 EltTy.f32)

variable (d : Dev nD) (L : grid0.Coords)

/-- A whole result array, as the kernel names it, is placed in its buffer as it stands. -/
theorem emb_koAll (y : S1024x128.Idx) : (koAll).view.emb y = y :=
  funext fun a => Fin.ext (by
    show allK.off a + 1 * (y a).val = (y a).val
    have h : allK.off a = 0 := by revert a; decide
    omega)

/-- The same of the value result. -/
theorem emb_voAll (y : S1024x128.Idx) : (voAll).view.emb y = y :=
  funext fun a => Fin.ext (by
    show allK.off a + 1 * (y a).val = (y a).val
    have h : allK.off a = 0 := by revert a; decide
    omega)

/-- The elements of row `k` of an array of 1024 rows: those whose first coordinate is `k`. -/
theorem mem_rowRect (k : Fin (S1024x128.size gathers_S1024x128_S32x128.axis)) (i : S1024x128.Idx) :
    i ∈ (S1024x128.rowRect gathers_S1024x128_S32x128.axis k).set ↔ (i 0).val = k.val := by
  have h1 : (i 1).val < 128 := (i 1).isLt
  refine Iff.trans (Rect.mem_set_unit (s := S1024x128)) (Iff.trans (Fin.forall_fin_two (p := fun a : Fin 2 => _)) ?_)
  constructor
  · rintro ⟨h, -⟩
    have h' : k.val ≤ (i 0).val ∧ (i 0).val < k.val + 1 := h
    omega
  · intro h
    refine ⟨(show k.val ≤ (i 0).val ∧ (i 0).val < k.val + 1 by omega), (show 0 ≤ (i 1).val ∧ (i 1).val < 0 + 128 by omega)⟩

/-- Row `k` of the key result, as the scatter addresses it, is row `k`. -/
theorem mem_koRow (k : Fin (S1024x128.size gathers_S1024x128_S32x128.axis)) (i : S1024x128.Idx) :
    i ∈ ((koAll).view.slice (S1024x128.rowRect gathers_S1024x128_S32x128.axis k)).set ↔ (i 0).val = k.val := by
  rw [View.set_slice, Finset.mem_map, ← mem_rowRect k i]
  exact ⟨fun ⟨y, hy, he⟩ => ((emb_koAll y).symm.trans he) ▸ hy, fun h => ⟨i, h, emb_koAll i⟩⟩

/-- The same of the value result. -/
theorem mem_voRow (k : Fin (S1024x128.size gathers_S1024x128_S32x128.axis)) (i : S1024x128.Idx) :
    i ∈ ((voAll).view.slice (S1024x128.rowRect gathers_S1024x128_S32x128.axis k)).set ↔ (i 0).val = k.val := by
  rw [View.set_slice, Finset.mem_map, ← mem_rowRect k i]
  exact ⟨fun ⟨y, hy, he⟩ => ((emb_voAll y).symm.trans he) ▸ hy, fun h => ⟨i, h, emb_voAll i⟩⟩

/-- The entry of the list that names the row of an element of the block. -/
theorem row_of_blk (fs : Buf (Elt F) ((V d (cV L) (jV L)).loc cc0_scratch0)) (i : S1024x128.Idx) :
    i ∈ blk (L 0).val (L 1).val ↔ ∃ k, (i 0).val = (listRows d L fs k).val := by
  rw [mem_blk]
  constructor
  · rintro ⟨h1, h2⟩
    refine ⟨⟨(i 0).val - base (L 0).val (L 1).val, (show _ < 32 by omega)⟩, ?_⟩
    rw [listRows_val]
    show _ = _ + ((i 0).val - _)
    omega
  · rintro ⟨k, hk⟩
    have hk' : k.val < 32 := k.isLt
    rw [listRows_val] at hk
    omega

/-- The rows the list names in the key result are the subcore's block of it. -/
theorem named_koAll (fs : Buf (Elt F) ((V d (cV L) (jV L)).loc cc0_scratch0)) :
    SparseCore.namedRows (V d (cV L) (jV L)) (koAll).view gathers_S1024x128_S32x128.axis (listRows d L fs) = blk (L 0).val (L 1).val := by
  rw [SparseCore.namedRows_eq]
  ext i
  refine Iff.trans ?_ (row_of_blk d L fs i).symm
  simp only [Finset.mem_biUnion, Finset.mem_univ, true_and]
  exact exists_congr fun k => mem_koRow _ i

/-- The same of the value result. -/
theorem named_voAll (fs : Buf (Elt F) ((V d (cV L) (jV L)).loc cc0_scratch0)) :
    SparseCore.namedRows (V d (cV L) (jV L)) (voAll).view gathers_S1024x128_S32x128.axis (listRows d L fs) = blk (L 0).val (L 1).val := by
  rw [SparseCore.namedRows_eq]
  ext i
  refine Iff.trans ?_ (row_of_blk d L fs i).symm
  simp only [Finset.mem_biUnion, Finset.mem_univ, true_and]
  exact exists_congr fun k => mem_voRow _ i

/-- An index carried along an equation of shapes keeps its coordinates. -/
theorem idxEquiv_symm_val {s s' : Shape} (h : s = s') (z : s'.Idx) (a : Fin s.rank) :
    ((Shape.idxEquiv h).symm z a).val = (z (a.cast (congrArg Shape.rank h))).val := by
  subst h; rfl

/-- Row `k` of a subcore's block, fetched and then placed by the list, is placed where it came from. -/
theorem place_eq (fs : Buf (Elt F) ((V d (cV L) (jV L)).loc cc0_scratch0)) (k : Fin (S32x128.size gathers_S1024x128_S32x128.axis'))
    (z : (S1024x128.rowShape gathers_S1024x128_S32x128.axis).Idx) :
    (rowK L).emb ((S32x128.rowRect gathers_S1024x128_S32x128.axis' k).emb ((Shape.idxEquiv gathers_S1024x128_S32x128.rowShape_eq).symm z))
      = (S1024x128.rowRect gathers_S1024x128_S32x128.axis (listRows d L fs k)).emb z := by
  have hk := listRows_val d L fs k
  have hz0 : (z (0 : Fin 2)).val < 1 := (z (0 : Fin 2)).isLt
  have e0 := idxEquiv_symm_val gathers_S1024x128_S32x128.rowShape_eq z (0 : Fin 2)
  have e1 := idxEquiv_symm_val gathers_S1024x128_S32x128.rowShape_eq z (1 : Fin 2)
  have o0 : (k0_off1 L) 0 = base (L 0).val (L 1).val := by rw [k0_off1_eq]; simp [base]
  have o1 : (k0_off1 L) 1 = 0 := by rw [k0_off1_eq]; rfl
  refine funext fun a => Fin.ext ?_
  match a with
  | 0 =>
    show (k0_off1 L) 0 + 1 * (k.val + 1 * ((Shape.idxEquiv gathers_S1024x128_S32x128.rowShape_eq).symm z (0 : Fin 2)).val)
      = (listRows d L fs k).val + 1 * (z (0 : Fin 2)).val
    have e0' : ((Shape.idxEquiv gathers_S1024x128_S32x128.rowShape_eq).symm z (0 : Fin 2)).val = (z (0 : Fin 2)).val := e0
    omega
  | 1 =>
    show (k0_off1 L) 1 + 1 * (0 + 1 * ((Shape.idxEquiv gathers_S1024x128_S32x128.rowShape_eq).symm z (1 : Fin 2)).val)
      = 0 + 1 * (z (1 : Fin 2)).val
    have e1' : ((Shape.idxEquiv gathers_S1024x128_S32x128.rowShape_eq).symm z (1 : Fin 2)).val = (z (1 : Fin 2)).val := e1
    omega

/-- The element a scatter puts at place `z` of row `r k` is place `z` of the source's row `k`. -/
theorem scatterBuf_emb {nD : Nat} {τ : Topo} {sig : RefSig} (c : Thread nD τ) {sp : Space} {s₀ : Shape} {e : EltTy} {o : ℕ} (v : View sig c.2.kind sp s₀ e) (ax : Fin s₀.rank)
    (r : Fin o → Fin (s₀.size ax)) (hr : Function.Injective r) (w : Fin o → (s₀.rowShape ax).Idx → Elt F e) (fd : Buf (Elt F) (v.loc c)) (k : Fin o)
    (z : (s₀.rowShape ax).Idx) :
    SparseCore.scatterBuf c v ax r w fd ((v.slice (s₀.rowRect ax (r k))).emb z) = _root_.cast (congrArg (Elt F) v.elt_eq.symm) (w k z) := by
  exact (SparseCore.scatterBuf_of_mem c v ax r hr w fd (k := k) (Finset.mem_map_of_mem _ (Finset.mem_univ z))).trans
    (View.write_emb_of_mem (v := v.slice (s₀.rowRect ax (r k))) fd (w k) (Finset.mem_univ z))

/-- After the scatter the subcore's block of the key result holds its block of the keys. -/
theorem scattered_ko (fs : Buf (Elt F) ((V d (cV L) (jV L)).loc cc0_scratch0)) (fk : Buf (Elt F) ((V d (cV L) (jV L)).loc cc0_scratch1))
    (G : Buf (Elt F) (kLoc d)) (fd : Buf (Elt F) (koLoc d)) (i : S1024x128.Idx) (hi : i ∈ blk (L 0).val (L 1).val) :
    SparseCore.scatterBuf (V d (cV L) (jV L)) (koAll).view gathers_S1024x128_S32x128.axis (listRows d L fs)
      (SparseCore.scatterRowPayload (V d (cV L) (jV L)) (kbV) gathers_S1024x128_S32x128
        ((kbV).view.write (Elt F) fk ((kSl L).view.read (Elt F) G) Finset.univ)) fd i = G i := by
  obtain ⟨k, hk⟩ := (row_of_blk d L fs i).mp hi
  obtain ⟨z, -, he⟩ := Finset.mem_map.mp ((mem_koRow (listRows d L fs k) i).mpr hk)
  have hz : (S1024x128.rowRect gathers_S1024x128_S32x128.axis (listRows d L fs k)).emb z = i :=
    (emb_koAll _).symm.trans he
  have hp := (place_eq d L fs k z).trans hz
  refine (congrArg _ he.symm).trans ((scatterBuf_emb (V d (cV L) (jV L)) (koAll).view gathers_S1024x128_S32x128.axis (listRows d L fs)
    (listRows_injective d L fs) _ fd k z).trans ?_)
  have hw : (kbV).view.write (Elt F) fk ((kSl L).view.read (Elt F) G) Finset.univ = (kSl L).view.read (Elt F) G := View.write_whole_univ _ _ _
  rw [hw]
  exact congrArg G hp

/-- The same of the values. -/
theorem scattered_vo (fs : Buf (Elt F) ((V d (cV L) (jV L)).loc cc0_scratch0)) (fk : Buf (Elt F) ((V d (cV L) (jV L)).loc cc0_scratch2))
    (G : Buf (Elt F) (vLoc d)) (fd : Buf (Elt F) (voLoc d)) (i : S1024x128.Idx) (hi : i ∈ blk (L 0).val (L 1).val) :
    SparseCore.scatterBuf (V d (cV L) (jV L)) (voAll).view gathers_S1024x128_S32x128.axis (listRows d L fs)
      (SparseCore.scatterRowPayload (V d (cV L) (jV L)) (vbV) gathers_S1024x128_S32x128
        ((vbV).view.write (Elt F) fk ((vSl L).view.read (Elt F) G) Finset.univ)) fd i = G i := by
  obtain ⟨k, hk⟩ := (row_of_blk d L fs i).mp hi
  obtain ⟨z, -, he⟩ := Finset.mem_map.mp ((mem_voRow (listRows d L fs k) i).mpr hk)
  have hz : (S1024x128.rowRect gathers_S1024x128_S32x128.axis (listRows d L fs k)).emb z = i :=
    (emb_voAll _).symm.trans he
  have hp := (place_eq d L fs k z).trans hz
  refine (congrArg _ he.symm).trans ((scatterBuf_emb (V d (cV L) (jV L)) (voAll).view gathers_S1024x128_S32x128.axis (listRows d L fs)
    (listRows_injective d L fs) _ fd k z).trans ?_)
  have hw : (vbV).view.write (Elt F) fk ((vSl L).view.read (Elt F) G) Finset.univ = (vSl L).view.read (Elt F) G := View.write_whole_univ _ _ _
  rw [hw]
  exact congrArg G hp

end Cert.Proof.Rows

end
-- ==== Proof.Tile.lean ====
/-
  One vector subcore's task. It writes its list of rows, fetches its block of the keys and of the values, starts two scatters
  through the one list, and waits for both. The list is lent to the two scatters in two shares.
-/
module

public import proofs.«01_k».proof.Proof.Rows

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "kV" => (Memref.whole Cert.KernelIdeal.main_v0_scv : Memref Cert.KernelIdeal.sig Kind.scVector Space.hbm Cert.KernelIdeal.S1024x128 EltTy.f32)
local notation "vV" => (Memref.whole Cert.KernelIdeal.main_v1_scv : Memref Cert.KernelIdeal.sig Kind.scVector Space.hbm Cert.KernelIdeal.S1024x128 EltTy.f32)
local notation "koV" => (Memref.whole Cert.KernelIdeal.main_v2_0_scv : Memref Cert.KernelIdeal.sig Kind.scVector Space.hbm Cert.KernelIdeal.S1024x128 EltTy.f32)
local notation "voV" => (Memref.whole Cert.KernelIdeal.main_v2_1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "kbV" => (Memref.whole Cert.KernelIdeal.cc0_scratch1 : Memref Cert.KernelIdeal.sig Kind.scVector Space.vmem Cert.KernelIdeal.S32x128 EltTy.f32)
local notation "vbV" => (Memref.whole Cert.KernelIdeal.cc0_scratch2 : Memref Cert.KernelIdeal.sig Kind.scVector Space.vmem Cert.KernelIdeal.S32x128 EltTy.f32)

variable (m : (ℓ : Loc nD τ sig) → Buf (Elt F) ℓ) (d : Dev nD) (L : grid0.Coords)

/-- What the first scatter leaves is the subcore's block of the key result holding the keys. -/
theorem koBack (fs : Buf (Elt F) ((V d (cV L) (jV L)).loc cc0_scratch0)) (fb : Buf (Elt F) ((V d (cV L) (jV L)).loc cc0_scratch1)) :
    ((koAll).view.loc (V d (cV L) (jV L)) ↦[SparseCore.namedRows (V d (cV L) (jV L)) (koAll).view gathers_S1024x128_S32x128.axis (listRows d L fs)]{fullShare}
        SparseCore.scatterBuf (V d (cV L) (jV L)) (koAll).view gathers_S1024x128_S32x128.axis (listRows d L fs)
          (SparseCore.scatterRowPayload (V d (cV L) (jV L)) (kbV) gathers_S1024x128_S32x128
            ((kbV).view.write (Elt F) fb ((kSl L).view.read (Elt F) (kRows m d)) Finset.univ)) (m (koLoc d)) : sProp 𝕄)
      = koPts d (L 0).val (L 1).val (kRows m d) := by
  rw [named_koAll]
  exact pointsTo_congr fun i hi => scattered_ko d L fs fb (kRows m d) (m (koLoc d)) i hi

/-- What the second scatter leaves is the subcore's block of the value result holding the values. -/
theorem voBack (fs : Buf (Elt F) ((V d (cV L) (jV L)).loc cc0_scratch0)) (fb : Buf (Elt F) ((V d (cV L) (jV L)).loc cc0_scratch2)) :
    ((voAll).view.loc (V d (cV L) (jV L)) ↦[SparseCore.namedRows (V d (cV L) (jV L)) (voAll).view gathers_S1024x128_S32x128.axis (listRows d L fs)]{fullShare}
        SparseCore.scatterBuf (V d (cV L) (jV L)) (voAll).view gathers_S1024x128_S32x128.axis (listRows d L fs)
          (SparseCore.scatterRowPayload (V d (cV L) (jV L)) (vbV) gathers_S1024x128_S32x128
            ((vbV).view.write (Elt F) fb ((vSl L).view.read (Elt F) (vRows m d)) Finset.univ)) (m (voLoc d)) : sProp 𝕄)
      = voPts d (L 0).val (L 1).val (vRows m d) := by
  rw [named_voAll]
  exact pointsTo_congr fun i hi => scattered_vo d L fs fb (vRows m d) (m (voLoc d)) i hi

variable [FloatOps F]

set_option maxHeartbeats 4000000 in
/-- From its blocks, the results' at any contents, a vector subcore's task ends with the same blocks, the results' holding the
operands' contents; its scratch buffers and its semaphores at zero come back. -/
theorem tile_body (hF : (K (F := F)).Facts) (O : CellTallies nD τ sig (HIx 1)) (W : Waits sig (HIx 1)) (hO : ∀ g, O g none = 0) :
    iprop(levAts (K (F := F)).L (K (F := F)).lev ∗ emp
        ∗ (kPts d (L 0).val (L 1).val (kRows m d) ∗ vPts d (L 0).val (L 1).val (vRows m d)
            ∗ koPts d (L 0).val (L 1).val (m (koLoc d)) ∗ voPts d (L 0).val (L 1).val (m (voLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scatter L kV (Memref.isWhole_whole _) vV (Memref.isWhole_whole _) koV (Memref.isWhole_whole _) voV (Memref.isWhole_whole _)
            sV (Memref.isWhole_whole _) kbV (Memref.isWhole_whole _) vbV (Memref.isWhole_whole _) cc0_scratch3 cc0_scratch4 cc0_scoped0 cc0_scoped1)
          fun _ => iprop((kPts d (L 0).val (L 1).val (kRows m d) ∗ vPts d (L 0).val (L 1).val (vRows m d)
            ∗ koPts d (L 0).val (L 1).val (kRows m d) ∗ voPts d (L 0).val (L 1).val (vRows m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_scatter_eq_skeleton]; unfold cc0__sc_scatter_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hk, Hv, Hko, Hvo⟩, ⟨⟨%fs, Hs⟩, ⟨%fk, Hkb⟩, ⟨%fv, Hvb⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hk' := (Entails.of_eq (pts_kSl (F := F) d L _).symm) $$ Hk
  ihave Hv' := (Entails.of_eq (pts_vSl (F := F) d L _).symm) $$ Hv
  ihave Hs' := (Entails.of_eq (pts_sV (F := F) d L _).symm) $$ Hs
  ihave Hkb' := (Entails.of_eq (pts_kbV (F := F) d L _).symm) $$ Hkb
  ihave Hvb' := (Entails.of_eq (pts_vbV (F := F) d L _).symm) $$ Hvb
  sl_exec
  have hss : (sV).view.set = Finset.univ := View.set_whole _
  have hks : (kbV).view.set = Finset.univ := View.set_whole _
  have hvs : (vbV).view.set = Finset.univ := View.set_whole _
  have hkp : tile_body.sl.dma4 m d L = (kSl L).view.read (Elt F) (kRows m d) := rfl
  have hvp : tile_body.sl.dma4_1 m d L = (vSl L).view.read (Elt F) (vRows m d) := rfl
  rw [hkp, hvp]
  -- the list, in two shares: one for each scatter
  ihave Hs2 := (Entails.of_eq (show ((sV).view.loc (V d (cV L) (jV L)) ↦{fullShare} listBuf d L fs : sProp 𝕄)
      = (sV).view.loc (V d (cV L) (jV L)) ↦[(sV).view.set]{fullShare} listBuf d L fs by rw [hss])) $$ Hs'
  ihave Hs3 := (pointsTo_share (PosShare.mem_left_op_right fullShare)).1 $$ Hs2
  icases Hs3 with ⟨Hl, Hr⟩
  ihave Hkb2 := (Entails.of_eq (show ((kbV).view.loc (V d (cV L) (jV L)) ↦{fullShare} _ : sProp 𝕄)
      = (kbV).view.loc (V d (cV L) (jV L)) ↦[(kbV).view.set]{fullShare} _ by rw [hks])) $$ Hkb'
  ihave Hvb2 := (Entails.of_eq (show ((vbV).view.loc (V d (cV L) (jV L)) ↦{fullShare} _ : sProp 𝕄)
      = (vbV).view.loc (V d (cV L) (jV L)) ↦[(vbV).view.set]{fullShare} _ by rw [hvs])) $$ Hvb'
  ihave Hko2 := (Entails.of_eq (show koPts d (L 0).val (L 1).val (m (koLoc d))
      = ((koAll).view.loc (V d (cV L) (jV L)) ↦[SparseCore.namedRows (V d (cV L) (jV L)) (koAll).view gathers_S1024x128_S32x128.axis (listRows d L fs)]{fullShare}
          m (koLoc d) : sProp 𝕄) by rw [named_koAll])) $$ Hko
  ihave Hvo2 := (Entails.of_eq (show voPts d (L 0).val (L 1).val (m (voLoc d))
      = ((voAll).view.loc (V d (cV L) (jV L)) ↦[SparseCore.namedRows (V d (cV L) (jV L)) (voAll).view gathers_S1024x128_S32x128.axis (listRows d L fs)]{fullShare}
          m (voLoc d) : sProp 𝕄) by rw [named_voAll])) $$ Hvo
  iapply (SparseCore.wp_indirectScatterLocal countersEmb 𝒱₀ (V d (cV L) (jV L)) none (hg := gathers_S1024x128_S32x128) (default : HIx 1)
      (kbV).view.dmaCredit (by decide) (list_in d L fs) (listRows_injective d L fs)
      (SparseCore.sum_scatterCredit_eq_srcCredit (V d (cV L) (jV L)) (kbV) (koAll) gathers_S1024x128_S32x128 (by decide) (listRows d L fs)
        (fun _ => rfl) (fun _ => rfl))) $$ [Hkb2 Hko2 Hl HsemC]
  · isplitl [Hkb2]; · iexact Hkb2
    isplitl [Hko2]; · iexact Hko2
    isplitl [Hl]; · iexact Hl
    iexact HsemC
  iintro HflK
  sl_exec
  iapply (SparseCore.wp_indirectScatterLocal countersEmb 𝒱₀ (V d (cV L) (jV L)) none (hg := gathers_S1024x128_S32x128) (default : HIx 1)
      (vbV).view.dmaCredit (by decide) (list_in d L fs) (listRows_injective d L fs)
      (SparseCore.sum_scatterCredit_eq_srcCredit (V d (cV L) (jV L)) (vbV) (voAll) gathers_S1024x128_S32x128 (by decide) (listRows d L fs)
        (fun _ => rfl) (fun _ => rfl))) $$ [Hvb2 Hvo2 Hr HsemD]
  · isplitl [Hvb2]; · iexact Hvb2
    isplitl [Hvo2]; · iexact Hvo2
    isplitl [Hr]; · iexact Hr
    iexact HsemD
  iintro HflV
  sl_exec
  iapply (Transfers.wp_waitLocalO countersEmb 𝒱₀ (V d (cV L) (jV L)) none (default : HIx 1) (rfl : (kbV).view.dmaCredit = _)) $$ [HflK HO]
  · isplitl [HflK]; · iexact HflK
    isplitl [HO]; · iexact HO
    iapply (Transfers.MayWaits.elim (SemLoc.dma cc0_scratch3.sem)) $$ Hmw
  iintro ⟨⟨Hko3, Hkb3, Hl⟩, HsemC, HO⟩
  sl_exec
  iapply (Transfers.wp_waitLocalO countersEmb 𝒱₀ (V d (cV L) (jV L)) none (default : HIx 1) (rfl : (vbV).view.dmaCredit = _)) $$ [HflV HO]
  · isplitl [HflV]; · iexact HflV
    isplitl [HO]; · iexact HO
    iapply (Transfers.MayWaits.elim (SemLoc.dma cc0_scratch4.sem)) $$ Hmw
  iintro ⟨⟨Hvo3, Hvb3, Hr⟩, HsemD, HO⟩
  ihave Hs4 := (pointsTo_share (PosShare.mem_left_op_right fullShare)).2 $$ [Hl Hr]; · isplitl [Hl] <;> iassumption
  ihave Hs5 := (Entails.of_eq (show ((sV).view.loc (V d (cV L) (jV L)) ↦[(sV).view.set]{fullShare} listBuf d L fs : sProp 𝕄)
      = (sV).view.loc (V d (cV L) (jV L)) ↦{fullShare} listBuf d L fs by rw [hss])) $$ Hs4
  ihave Hkb5 := (Entails.of_eq (show ((kbV).view.loc (V d (cV L) (jV L)) ↦[(kbV).view.set]{fullShare} _ : sProp 𝕄)
      = (kbV).view.loc (V d (cV L) (jV L)) ↦{fullShare} _ by rw [hks])) $$ Hkb3
  ihave Hvb5 := (Entails.of_eq (show ((vbV).view.loc (V d (cV L) (jV L)) ↦[(vbV).view.set]{fullShare} _ : sProp 𝕄)
      = (vbV).view.loc (V d (cV L) (jV L)) ↦{fullShare} _ by rw [hvs])) $$ Hvb3
  ihave Hko5 := (Entails.of_eq (koBack m d L fs fk)) $$ Hko3
  ihave Hvo5 := (Entails.of_eq (voBack m d L fs fv)) $$ Hvo3
  sl_exec
  sl_step
  isplitl [Hk' Hv' Hko5 Hvo5]
  · isplitl [Hk']; · iapply (Entails.of_eq (pts_kSl (F := F) d L _)); iexact Hk'
    isplitl [Hv']; · iapply (Entails.of_eq (pts_vSl (F := F) d L _)); iexact Hv'
    isplitl [Hko5] <;> iassumption
  isplitl [Hs5 Hkb5 Hvb5 Hbufs]
  · isplitl [Hs5]; · iexists _; iexact Hs5
    isplitl [Hkb5]; · iexists _; iexact Hkb5
    isplitl [Hvb5]; · iexists _; iexact Hvb5
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Rows

end
-- ==== Proof.Launch.lean ====
/-
  The launch of the kernel's one call and the program's run. Each vector subcore is handed its block of the two operands
  and of the two results, and hands them back with the results' blocks holding the operands' (Tile.lean). @main puts each of
  the first two arguments into an array of 1024 rows before the call and each result back into the arguments' shape after
  it. The run says what both results hold and that the arguments and the semaphores end as they began; both frames and the
  value claim are taken from it.
-/
module

public import proofs.«01_k».proof.Proof.Tile
public import Idealize.ShloMosaic.Lib.StableHlo.Run

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "kV" => (Memref.whole Cert.KernelIdeal.main_v0_scv : Memref Cert.KernelIdeal.sig Kind.scVector Space.hbm Cert.KernelIdeal.S1024x128 EltTy.f32)
local notation "vV" => (Memref.whole Cert.KernelIdeal.main_v1_scv : Memref Cert.KernelIdeal.sig Kind.scVector Space.hbm Cert.KernelIdeal.S1024x128 EltTy.f32)
local notation "koV" => (Memref.whole Cert.KernelIdeal.main_v2_0_scv : Memref Cert.KernelIdeal.sig Kind.scVector Space.hbm Cert.KernelIdeal.S1024x128 EltTy.f32)
local notation "voV" => (Memref.whole Cert.KernelIdeal.main_v2_1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "kbV" => (Memref.whole Cert.KernelIdeal.cc0_scratch1 : Memref Cert.KernelIdeal.sig Kind.scVector Space.vmem Cert.KernelIdeal.S32x128 EltTy.f32)
local notation "vbV" => (Memref.whole Cert.KernelIdeal.cc0_scratch2 : Memref Cert.KernelIdeal.sig Kind.scVector Space.vmem Cert.KernelIdeal.S32x128 EltTy.f32)

variable (m : (ℓ : Loc nD τ sig) → Buf (Elt F) ℓ) (ρ : Dev nD → PrngReg)

/-! ## What the call passes around -/

/-- What a vector subcore is handed: its blocks, the results' at what they held at the launch. -/
abbrev tileIn (d : Dev nD) (c s : ℕ) : sProp 𝕄 :=
  iprop(kPts d c s (kRows m d) ∗ vPts d c s (vRows m d) ∗ koPts d c s (m (koLoc d)) ∗ voPts d c s (m (voLoc d)))
/-- What it hands back: the same blocks, the results' at the operands' contents. -/
abbrev tileOut (d : Dev nD) (c s : ℕ) : sProp 𝕄 :=
  iprop(kPts d c s (kRows m d) ∗ vPts d c s (vRows m d) ∗ koPts d c s (kRows m d) ∗ voPts d c s (vRows m d))

/-- What the call's two SparseCores and their vector subcores are handed and hand back. -/
def P : (K (F := F)).Pay (nD := nD) (Val := Elt F) (Name := ℕ) (U := UU) where
  st := fun q d c => match q with | 0 => bigSep Finset.univ fun i : Fin ((K (F := F)).nSub 0) => tileIn m d c.val i.val
  dn := fun q d c => match q with | 0 => bigSep Finset.univ fun i : Fin ((K (F := F)).nSub 0) => tileOut m d c.val i.val
  go := fun q d c i => match q with | 0 => tileIn m d c.val i.val
  td := fun q d c i => match q with | 0 => tileOut m d c.val i.val
  x := fun _ _ => iprop(emp)

instance P_storable : (P (F := F) m).IsStorable where
  st q d c := match q with
    | 0 => (inferInstance : BI.Storable (upEmb : UEmb _ 𝕄) (bigSep Finset.univ fun i : Fin ((K (F := F)).nSub 0) => tileIn m d c.val i.val))
  dn q d c := match q with
    | 0 => (inferInstance : BI.Storable (upEmb : UEmb _ 𝕄) (bigSep Finset.univ fun i : Fin ((K (F := F)).nSub 0) => tileOut m d c.val i.val))
  go q d c i := match q with
    | 0 => (inferInstance : BI.Storable (upEmb : UEmb _ 𝕄) (tileIn m d c.val i.val))
  td q d c i := match q with
    | 0 => (inferInstance : BI.Storable (upEmb : UEmb _ 𝕄) (tileOut m d c.val i.val))

variable [FloatOps F]

/-! ## The call's tasks -/

/-- The coordinates of vector subcore `s` of SparseCore `c` in the kernel's grid. -/
def coordsV (c : Fin (grid0.bound 0)) (s : Fin (grid0.bound 1)) : grid0.Coords :=
  fun | 0 => c | 1 => s | ⟨_ + 2, h⟩ => absurd h (Nat.not_lt.2 (Nat.le_add_left _ _))

/-- The table's entry for a vector subcore is the kernel's body at that subcore's coordinates. -/
theorem defs₀_vector (c : Fin τ.nSC) (s : Fin τ.nSub) :
    defs₀ (F := F) (.scVector c s) 0 ()
      = SparseCore.onTile hcore0 hsub0 (fun c s => cc0__sc_scatter (coordsV c s)
          kV (Memref.isWhole_whole _) vV (Memref.isWhole_whole _) koV (Memref.isWhole_whole _) voV (Memref.isWhole_whole _)
          sV (Memref.isWhole_whole _) kbV (Memref.isWhole_whole _) vbV (Memref.isWhole_whole _) cc0_scratch3 cc0_scratch4 cc0_scoped0 cc0_scoped1) ⟨⟩ c s := rfl

omit [FloatOps F] in
/-- The waits a task recorded, as the launch counts them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore's task takes what it is handed to what it hands back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-- A SparseCore's part of the call is its sixteen subcores' parts. -/
theorem vecSplit : (K (F := F)).VecSplit' (P m) 0 := by
  intro d c
  show (bigSep Finset.univ fun i : Fin ((K (F := F)).nSub 0) => tileIn m d c.val i.val) ⊢ |={Set.univ}=> iprop(
      (bigSep Finset.univ fun i : Fin ((K (F := F)).nSub 0) => tileIn m d c.val i.val)
      ∗ ((bigSep Finset.univ fun i : Fin ((K (F := F)).nSub 0) => tileOut m d c.val i.val)
          -∗ bigSep Finset.univ fun i : Fin ((K (F := F)).nSub 0) => tileOut m d c.val i.val))
  iintro H; imodintro
  isplitl [H]; · iexact H
  iintro H; iexact H

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The call's operands and results, whole and in blocks -/

omit [FloatOps F] in
/-- Each of the four arrays of the call, held whole, is its 32 blocks. -/
theorem kPts_blocks (d : Dev nD) (f : Buf (Elt F) (kLoc d)) :
    (kLoc d ↦{fullShare} f : sProp 𝕄) = bigSep Finset.univ fun c : Fin 2 => bigSep Finset.univ fun s : Fin 16 => kPts d c.val s.val f :=
  pointsTo_blocks (kLoc d) f blk coreBlk (fun _ => rfl) blk_disjoint coreBlk_disjoint coreBlk_cover
omit [FloatOps F] in
theorem vPts_blocks (d : Dev nD) (f : Buf (Elt F) (vLoc d)) :
    (vLoc d ↦{fullShare} f : sProp 𝕄) = bigSep Finset.univ fun c : Fin 2 => bigSep Finset.univ fun s : Fin 16 => vPts d c.val s.val f :=
  pointsTo_blocks (vLoc d) f blk coreBlk (fun _ => rfl) blk_disjoint coreBlk_disjoint coreBlk_cover
omit [FloatOps F] in
theorem koPts_blocks (d : Dev nD) (f : Buf (Elt F) (koLoc d)) :
    (koLoc d ↦{fullShare} f : sProp 𝕄) = bigSep Finset.univ fun c : Fin 2 => bigSep Finset.univ fun s : Fin 16 => koPts d c.val s.val f :=
  pointsTo_blocks (koLoc d) f blk coreBlk (fun _ => rfl) blk_disjoint coreBlk_disjoint coreBlk_cover
omit [FloatOps F] in
theorem voPts_blocks (d : Dev nD) (f : Buf (Elt F) (voLoc d)) :
    (voLoc d ↦{fullShare} f : sProp 𝕄) = bigSep Finset.univ fun c : Fin 2 => bigSep Finset.univ fun s : Fin 16 => voPts d c.val s.val f :=
  pointsTo_blocks (voLoc d) f blk coreBlk (fun _ => rfl) blk_disjoint coreBlk_disjoint coreBlk_cover

omit [FloatOps F] in
/-- Four families of blocks, dealt block by block. -/
theorem deal (Φ₁ Φ₂ Φ₃ Φ₄ : Fin 2 → Fin 16 → sProp 𝕄) :
    (bigSep Finset.univ fun c : Fin 2 => bigSep Finset.univ fun s : Fin 16 => iprop(Φ₁ c s ∗ Φ₂ c s ∗ Φ₃ c s ∗ Φ₄ c s))
      = iprop((bigSep Finset.univ fun c : Fin 2 => bigSep Finset.univ fun s : Fin 16 => Φ₁ c s) ∗ (bigSep Finset.univ fun c : Fin 2 => bigSep Finset.univ fun s : Fin 16 => Φ₂ c s)
          ∗ (bigSep Finset.univ fun c : Fin 2 => bigSep Finset.univ fun s : Fin 16 => Φ₃ c s) ∗ (bigSep Finset.univ fun c : Fin 2 => bigSep Finset.univ fun s : Fin 16 => Φ₄ c s)) := by
  simp only [bigSep_sep']

/-- What the call is handed: its operands and its results whole. -/
theorem st0_eq (d : Dev nD) :
    (bigSep Finset.univ fun c : Fin ((K (F := F)).nCore 0) => (P m).st 0 d c)
      = iprop((kLoc d ↦{fullShare} kRows m d) ∗ (vLoc d ↦{fullShare} vRows m d) ∗ (koLoc d ↦{fullShare} m (koLoc d)) ∗ voLoc d ↦{fullShare} m (voLoc d)) := by
  rw [kPts_blocks, vPts_blocks, koPts_blocks, voPts_blocks, ← deal]; rfl

/-- What the call hands back: its operands as they were, each result holding its operand's rows. -/
theorem dn0_eq (d : Dev nD) :
    (bigSep Finset.univ fun c : Fin ((K (F := F)).nCore 0) => (P m).dn 0 d c)
      = iprop((kLoc d ↦{fullShare} kRows m d) ∗ (vLoc d ↦{fullShare} vRows m d) ∗ (koLoc d ↦{fullShare} kRows m d) ∗ voLoc d ↦{fullShare} vRows m d) := by
  rw [kPts_blocks, vPts_blocks, koPts_blocks d (kRows m d), voPts_blocks d (vRows m d), ← deal]; rfl

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev k' : DevRef τ sig := Proc.devRef .tc (main_v0 : Ref sig .tc)
abbrev v' : DevRef τ sig := Proc.devRef .tc (main_v1 : Ref sig .tc)
abbrev ko' : DevRef τ sig := Proc.devRef .tc (main_v2_0 : Ref sig .tc)
abbrev vo' : DevRef τ sig := Proc.devRef .tc (main_v2_1 : Ref sig .tc)
abbrev r0' : DevRef τ sig := Proc.devRef .tc (main_v3 : Ref sig .tc)
abbrev r1' : DevRef τ sig := Proc.devRef .tc (main_v4 : Ref sig .tc)

/-- The four changes of shape in @main: two before the call, two after it. -/
abbrev opK : HloOp τ sig (Elt F) := StableHlo.reshape main_arg0 main_v0 (rfl : (.f32 : EltTy) = .f32) shapeCasts_S16x8x8x128_S1024x128
abbrev opV : HloOp τ sig (Elt F) := StableHlo.reshape main_arg1 main_v1 (rfl : (.f32 : EltTy) = .f32) shapeCasts_S16x8x8x128_S1024x128
abbrev opR0 : HloOp τ sig (Elt F) := StableHlo.reshape main_v2_0 main_v3 (rfl : (.f32 : EltTy) = .f32) shapeCasts_S1024x128_S16x8x8x128
abbrev opR1 : HloOp τ sig (Elt F) := StableHlo.reshape main_v2_1 main_v4 (rfl : (.f32 : EltTy) = .f32) shapeCasts_S1024x128_S16x8x8x128

/-- @main's ten arrays. -/
abbrev S10 : Finset (DevRef τ sig) := {a0', a1', a2', a3', k', v', ko', vo', r0', r1'}

omit [FloatOps F] in
theorem held_S10 (d : Dev nD) (W : Valuation τ sig (Elt F)) :
    (held (T d) S10 W : sProp 𝕄)
      = iprop((a0Loc d ↦{fullShare} W a0') ∗ (a1Loc d ↦{fullShare} W a1') ∗ (a2Loc d ↦{fullShare} W a2') ∗ (a3Loc d ↦{fullShare} W a3')
          ∗ (kLoc d ↦{fullShare} W k') ∗ (vLoc d ↦{fullShare} W v') ∗ (koLoc d ↦{fullShare} W ko') ∗ (voLoc d ↦{fullShare} W vo')
          ∗ (r0Loc d ↦{fullShare} W r0') ∗ r1Loc d ↦{fullShare} W r1') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2) ∗ (a3Loc d ↦{fullShare} W main_arg3)
          ∗ (kLoc d ↦{fullShare} W main_v0) ∗ (vLoc d ↦{fullShare} W main_v1) ∗ (koLoc d ↦{fullShare} W main_v2_0) ∗ (voLoc d ↦{fullShare} W main_v2_1)
          ∗ (r0Loc d ↦{fullShare} W main_v3) ∗ r1Loc d ↦{fullShare} W main_v4) := by
  unfold unscopedBufs
  rw [show (Finset.univ.filter fun b : Ref sig .tc => ¬ b.isScoped)
      = {main_arg0, main_arg1, main_arg2, main_arg3, main_v0, main_v1, main_v2_0, main_v2_1, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the arrays hold at the launch, before the call, after it, and at the end. -/
def V0 (d : Dev nD) : Valuation τ sig (Elt F) := fun b => m (d, b)
def V2 (d : Dev nD) : Valuation τ sig (Elt F) := (opV (F := F)).result ((opK (F := F)).result (V0 m d))
def V3 (d : Dev nD) : Valuation τ sig (Elt F) := Function.update (Function.update (V2 m d) ko' (kRows m d)) vo' (vRows m d)
def V5 (d : Dev nD) : Valuation τ sig (Elt F) := (opR1 (F := F)).result ((opR0 (F := F)).result (V3 m d))

theorem unscoped_held (d : Dev nD) : (unscopedBufs d (fun b => m ((SparseCore.T d).loc b)) : sProp 𝕄) = held (T d) S10 (V0 m d) := by
  rw [unscopedBufs_eq, held_S10]; rfl

/-- Before the call an array that is not one of its operands holds what it held at the launch. -/
theorem V2_of_ne (d : Dev nD) (b : DevRef τ sig) (hk : b ≠ k') (hv : b ≠ v') : V2 m d b = m (d, b) := by
  unfold V2
  rw [(opV (F := F)).result_of_not_mem _ (show b ∉ ({v'} : Finset (DevRef τ sig)) from fun h => hv (Finset.mem_singleton.mp h)),
    (opK (F := F)).result_of_not_mem _ (show b ∉ ({k'} : Finset (DevRef τ sig)) from fun h => hk (Finset.mem_singleton.mp h))]
  rfl
/-- The call's operands hold the first two arguments as rows. -/
theorem V2_k (d : Dev nD) : V2 m d k' = kRows m d := by
  unfold V2
  rw [(opV (F := F)).result_of_not_mem _ (show k' ∉ ({v'} : Finset (DevRef τ sig)) by decide)]
  exact StableHlo.reshape_result _ _ _ _ _ _ _
theorem V2_v (d : Dev nD) : V2 m d v' = vRows m d := by
  refine (StableHlo.reshape_result main_arg1 main_v1 _ _ _ _ _).trans ?_
  rw [(opK (F := F)).result_of_not_mem _ (show a1' ∉ ({k'} : Finset (DevRef τ sig)) by decide)]
  rfl

/-- After the call only its two results have changed. -/
theorem V3_of_ne (d : Dev nD) (b : DevRef τ sig) (hk : b ≠ ko') (hv : b ≠ vo') : V3 m d b = V2 m d b :=
  (Function.update_of_ne hv _ _).trans (Function.update_of_ne hk _ _)
/-- After the call each result holds its operand's rows. -/
theorem V3_ko (d : Dev nD) : V3 m d ko' = kRows m d := (Function.update_of_ne (show ko' ≠ vo' by decide) _ _).trans (Function.update_self _ _ _)
theorem V3_vo (d : Dev nD) : V3 m d vo' = vRows m d := Function.update_self _ _ _

/-- An argument ends as it began. -/
theorem V5_of_ne (d : Dev nD) (b : DevRef τ sig) (h0 : b ≠ r0') (h1 : b ≠ r1') (hk : b ≠ k') (hv : b ≠ v') (hko : b ≠ ko') (hvo : b ≠ vo') :
    V5 m d b = m (d, b) := by
  unfold V5
  rw [(opR1 (F := F)).result_of_not_mem _ (show b ∉ ({r1'} : Finset (DevRef τ sig)) from fun h => h1 (Finset.mem_singleton.mp h)),
    (opR0 (F := F)).result_of_not_mem _ (show b ∉ ({r0'} : Finset (DevRef τ sig)) from fun h => h0 (Finset.mem_singleton.mp h)),
    V3_of_ne m d b hko hvo, V2_of_ne m d b hk hv]

omit [FloatOps F] in
/-- An array put into 1024 rows and back is the array. -/
theorem rows_back {α : Type} (x : S16x8x8x128.Idx → α) :
    shapeCast S16x8x8x128 (shapeCast S1024x128 x shapeCasts_S16x8x8x128_S1024x128) shapeCasts_S1024x128_S16x8x8x128 = x := by
  funext i
  simp [shapeCast, Shape.reshapeEquiv]

/-- The program's results are its first two arguments. -/
theorem V5_r0 (d : Dev nD) : V5 m d r0' = m (a0Loc d) := by
  unfold V5
  rw [(opR1 (F := F)).result_of_not_mem _ (show r0' ∉ ({r1'} : Finset (DevRef τ sig)) by decide)]
  refine (StableHlo.reshape_result main_v2_0 main_v3 _ _ _ _ _).trans ?_
  rw [V3_ko]
  exact rows_back (m (a0Loc d))
theorem V5_r1 (d : Dev nD) : V5 m d r1' = m (a1Loc d) := by
  refine (StableHlo.reshape_result main_v2_1 main_v4 _ _ _ _ _).trans ?_
  rw [(opR0 (F := F)).result_of_not_mem _ (show vo' ∉ ({r0'} : Finset (DevRef τ sig)) by decide), V3_vo]
  exact rows_back (m (a1Loc d))

/-- Each change of shape touches only those ten arrays. -/
theorem hK : (opK (F := F)).bufs ⊆ S10 := show ({a0', k'} : Finset (DevRef τ sig)) ⊆ S10 by decide
theorem hV : (opV (F := F)).bufs ⊆ S10 := show ({a1', v'} : Finset (DevRef τ sig)) ⊆ S10 by decide
theorem hR0 : (opR0 (F := F)).bufs ⊆ S10 := show ({ko', r0'} : Finset (DevRef τ sig)) ⊆ S10 by decide
theorem hR1 : (opR1 (F := F)).bufs ⊆ S10 := show ({vo', r1'} : Finset (DevRef τ sig)) ⊆ S10 by decide

/-- The ten arrays before the call. -/
theorem held_V2 (d : Dev nD) :
    (held (T d) S10 ((opV (F := F)).result ((opK (F := F)).result (V0 m d))) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ (kLoc d ↦{fullShare} kRows m d) ∗ (vLoc d ↦{fullShare} vRows m d) ∗ (koLoc d ↦{fullShare} m (koLoc d)) ∗ (voLoc d ↦{fullShare} m (voLoc d))
          ∗ (r0Loc d ↦{fullShare} m (r0Loc d)) ∗ r1Loc d ↦{fullShare} m (r1Loc d)) := by
  show held (SparseCore.T d) S10 (V2 m d) = _
  rw [held_S10, V2_k, V2_v, V2_of_ne m d a0' (by decide) (by decide), V2_of_ne m d a1' (by decide) (by decide), V2_of_ne m d a2' (by decide) (by decide),
    V2_of_ne m d a3' (by decide) (by decide), V2_of_ne m d ko' (by decide) (by decide), V2_of_ne m d vo' (by decide) (by decide),
    V2_of_ne m d r0' (by decide) (by decide), V2_of_ne m d r1' (by decide) (by decide)]

/-- The ten arrays after the call. -/
theorem held_V3 (d : Dev nD) :
    (held (T d) S10 (V3 m d) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ (kLoc d ↦{fullShare} kRows m d) ∗ (vLoc d ↦{fullShare} vRows m d) ∗ (koLoc d ↦{fullShare} kRows m d) ∗ (voLoc d ↦{fullShare} vRows m d)
          ∗ (r0Loc d ↦{fullShare} m (r0Loc d)) ∗ r1Loc d ↦{fullShare} m (r1Loc d)) := by
  rw [held_S10, V3_ko, V3_vo, V3_of_ne m d k' (by decide) (by decide), V3_of_ne m d v' (by decide) (by decide), V2_k, V2_v,
    V3_of_ne m d a0' (by decide) (by decide), V3_of_ne m d a1' (by decide) (by decide), V3_of_ne m d a2' (by decide) (by decide), V3_of_ne m d a3' (by decide) (by decide),
    V3_of_ne m d r0' (by decide) (by decide), V3_of_ne m d r1' (by decide) (by decide),
    V2_of_ne m d a0' (by decide) (by decide), V2_of_ne m d a1' (by decide) (by decide), V2_of_ne m d a2' (by decide) (by decide),
    V2_of_ne m d a3' (by decide) (by decide), V2_of_ne m d r0' (by decide) (by decide), V2_of_ne m d r1' (by decide) (by decide)]

/-- What @main leaves: the arguments as they were, and the two results holding the first two of them. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d))
    ∗ (r0Loc d ↦{fullShare} m (a0Loc d)) ∗ r1Loc d ↦{fullShare} m (a1Loc d))

/-- The ten arrays at the end. -/
theorem held_V5 (d : Dev nD) :
    (held (T d) S10 ((opR1 (F := F)).result ((opR0 (F := F)).result (V3 m d))) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ (kLoc d ↦{fullShare} V5 m d k') ∗ (vLoc d ↦{fullShare} V5 m d v') ∗ (koLoc d ↦{fullShare} V5 m d ko') ∗ (voLoc d ↦{fullShare} V5 m d vo')
          ∗ (r0Loc d ↦{fullShare} m (a0Loc d)) ∗ r1Loc d ↦{fullShare} m (a1Loc d)) := by
  show held (SparseCore.T d) S10 (V5 m d) = _
  rw [held_S10, V5_r0, V5_r1,
    V5_of_ne m d a0' (by decide) (by decide) (by decide) (by decide) (by decide) (by decide),
    V5_of_ne m d a1' (by decide) (by decide) (by decide) (by decide) (by decide) (by decide),
    V5_of_ne m d a2' (by decide) (by decide) (by decide) (by decide) (by decide) (by decide),
    V5_of_ne m d a3' (by decide) (by decide) (by decide) (by decide) (by decide) (by decide)]

/-- @main on device `d`'s TensorCore: two changes of shape, the call, two changes of shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opK) (S := S10) hK (V := V0 m d)) $$ [Hb Hheld]
  · isplitl [Hb] <;> iassumption
  iintro ⟨Hb, Hheld⟩
  rw [wp_ret]; imodintro
  iapply (wp_hlo_within 𝒱 (SparseCore.T d) none Set.univ (op := opV) (S := S10) hV (V := (opK (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨H0, H1, H2, H3, Hk, Hv, Hko, Hvo, Hr0, Hr1⟩
  iapply ((K (F := F)).wp_run (D (F := F)) 𝒱 (EH := EH) (P := P m) κ d 0) $$ [Hst Hk Hv Hko Hvo Hb H0 H1 H2 H3 Hr0 Hr1 Hts]
  isplitr; · iexact Hctx
  isplitl [Hst]; · iexact Hst
  isplitl [Hk Hv Hko Hvo]
  · rw [st0_eq]
    isplitl [Hk]; · iexact Hk
    isplitl [Hv]; · iexact Hv
    isplitl [Hko]; · iexact Hko
    iexact Hvo
  iintro ⟨Hst, Hdn⟩
  ihave Hdn' := (Entails.of_eq (dn0_eq m d)) $$ Hdn
  icases Hdn' with ⟨Hk, Hv, Hko, Hvo⟩
  iapply (wp_hlo_within 𝒱 (SparseCore.T d) none Set.univ (op := opR0) (S := S10) hR0 (V := V3 m d)) $$ [Hb H0 H1 H2 H3 Hk Hv Hko Hvo Hr0 Hr1]
  · isplitl [Hb]; · iexact Hb
    rw [held_V3]
    isplitl [H0]; · iexact H0
    isplitl [H1]; · iexact H1
    isplitl [H2]; · iexact H2
    isplitl [H3]; · iexact H3
    isplitl [Hk]; · iexact Hk
    isplitl [Hv]; · iexact Hv
    isplitl [Hko]; · iexact Hko
    isplitl [Hvo]; · iexact Hvo
    isplitl [Hr0]; · iexact Hr0
    iexact Hr1
  iintro ⟨Hb, Hheld⟩
  rw [wp_ret]; imodintro
  iapply (wp_hlo_within 𝒱 (SparseCore.T d) none Set.univ (op := opR1) (S := S10) hR1 (V := (opR0 (F := F)).result (V3 m d))) $$ [Hb Hheld]
  · isplitl [Hb] <;> iassumption
  iintro ⟨Hb, Hheld⟩
  ihave Hh := (Entails.of_eq (held_V5 (F := F) m d)) $$ Hheld
  icases Hh with ⟨H0, H1, H2, H3, -, -, -, -, Hr0, Hr1⟩
  rw [wp_ret]; imodintro; imodintro
  isplitl [Hst]; · iexact Hst
  isplitr [Hb Hts]
  · isplitl [H0]; · iexact H0
    isplitl [H1]; · iexact H1
    isplitl [H2]; · iexact H2
    isplitl [H3]; · iexact H3
    isplitl [Hr0]; · iexact Hr0
    iexact Hr1
  isplitl [Hb] <;> iassumption

/-- What is read of device `d`'s final memory. -/
def fq (d : Dev nD) (s' : Phys nD τ sig (Elt F)) : Prop :=
  s'.mem.mem (r0Loc d) = m (a0Loc d) ∧ s'.mem.mem (r1Loc d) = m (a1Loc d)
    ∧ s'.mem.mem (a0Loc d) = m (a0Loc d) ∧ s'.mem.mem (a1Loc d) = m (a1Loc d) ∧ s'.mem.mem (a2Loc d) = m (a2Loc d) ∧ s'.mem.mem (a3Loc d) = m (a3Loc d)

set_option maxRecDepth 16384 in
/-- What @main leaves, read in the final memory. -/
theorem hfin (d : Dev nD) (s' : Phys nD τ sig (Elt F)) : iprop(FIN m d ∗ SI s') ⊢ (⌜fq m d s'⌝ : sProp 𝕄) := by
  iintro ⟨⟨H0, H1, H2, H3, Hr0, Hr1⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (persistent_entails_right (SI_pointsTo_agree (st := s') (ℓ := r0Loc d) (I := Finset.univ) (q := fullShare) (f := m (a0Loc d)))) $$ [HSI Hr0]
  · isplitl [HSI] <;> iassumption
  icases H with ⟨%h4, HSI, -⟩
  ihave H := (SI_pointsTo_agree (st := s') (ℓ := r1Loc d) (I := Finset.univ) (q := fullShare) (f := m (a1Loc d))) $$ [HSI Hr1]
  · isplitl [HSI] <;> iassumption
  icases H with %h5
  ipureintro
  exact ⟨funext fun i => h4 i (Finset.mem_univ i), funext fun i => h5 i (Finset.mem_univ i), funext fun i => h0 i (Finset.mem_univ i),
    funext fun i => h1 i (Finset.mem_univ i), funext fun i => h2 i (Finset.mem_univ i), funext fun i => h3 i (Finset.mem_univ i)⟩

/-! ## The program's run -/

/-- On every device the two results hold the first two arguments, the four arguments are unchanged, and every semaphore is at zero. -/
def QC : PUnit × MemSt nD τ sig (Elt F) → Prop := fun r =>
  (∀ c : Dev nD, r.2.mem (r0Loc c) = m (a0Loc c) ∧ r.2.mem (r1Loc c) = m (a1Loc c)
    ∧ r.2.mem (a0Loc c) = m (a0Loc c) ∧ r.2.mem (a1Loc c) = m (a1Loc c) ∧ r.2.mem (a2Loc c) = m (a2Loc c) ∧ r.2.mem (a3Loc c) = m (a3Loc c))
    ∧ r.2.sem = fun _ => 0

/-- From any launch memory the program runs to its end, under any schedule, and ends as `QC` says — over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Rows

end
-- ==== Proof.Reference.lean ====
/-
  What the reference computes. It writes the new rows into rows 0 to 7 of a cache by an update at an array of row numbers,
  and returns those eight rows: they are the new rows, whatever the cache held.
-/
module

public import proofs.«01_k».proof.Defs
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import Idealize.ShloMosaic.Lib.Routing.OpsSet
public import Idealize.ShloMosaic.Lib.Routing.OpsPair

@[expose] public section

noncomputable section

namespace Cert.Proof.Ref

open Cert.ReferenceIdeal Cert.ReferenceIdeal.Gen
open Idealize.ShloMosaic Idealize.ShloMosaic.Routing Idealize.ShloMosaic.TcCoe Idealize.SL.Sem

/-- The row numbers the reference writes at, as it computes them: 0 to 7. -/
abbrev rowWords : IVec S8x1 32 :=
  broadcastInDim S8x1 ![0] bcast_S8_S8x1_0 (select (cmpi .slt (extractStridedSlice S8 ![0] (iotaInDim S4096 32 0) slices_S4096_S8_0) (broadcastInDim S8 ![] bcast_S_S8 (constantI S_ 32 0#32)))
    (addi (extractStridedSlice S8 ![0] (iotaInDim S4096 32 0) slices_S4096_S8_0) (broadcastInDim S8 ![] bcast_S_S8 (constantI S_ 32 4096#32)))
    (extractStridedSlice S8 ![0] (iotaInDim S4096 32 0) slices_S4096_S8_0))

/-- Entry `j` of them is `j`. -/
theorem rowWords_apply (q : S8x1.Idx) : (rowWords q).toInt = ((q 0).val : Int) := by
  have h : ∀ n : Fin 8, (if BitVec.ofBool ((BitVec.ofNat 32 n.val).slt 0#32) = 1#1 then BitVec.ofNat 32 n.val + 4096#32 else BitVec.ofNat 32 n.val).toInt = (n.val : Int) := by
    decide
  have hq : (q 0).val < 8 := (q 0).isLt
  have hw : rowWords q = Scalar.select (IntOp.cmpi .slt (BitVec.ofNat 32 (0 + (q 0).val)) 0#32) (BitVec.ofNat 32 (0 + (q 0).val) + 4096#32) (BitVec.ofNat 32 (0 + (q 0).val)) := rfl
  rw [hw, Nat.zero_add]
  exact h ⟨(q 0).val, hq⟩

/-- Where the reference's update puts its rows: along the third axis. -/
abbrev dims : ScatterDims S16x8x4096x128 S8x1 S16x8x8x128 := scatter_S16x8x4096x128_S8x1_S16x8x8x128_013_2_2_1

/-- Update `k` goes to the place of the cache with the same four coordinates. -/
theorem lands (k : S16x8x8x128.Idx) (ι : S16x8x4096x128.Idx) :
    dims.resultIdx? k rowWords = some ι ↔ ∀ a : Fin 4, (k a).val = (ι a).val := by
  rw [resultIdx?_eq_some]
  have s0 : dims.start k rowWords (0 : Fin 4) = 0 := rfl
  have s1 : dims.start k rowWords (1 : Fin 4) = 0 := rfl
  have s2 : dims.start k rowWords (2 : Fin 4) = ((k (2 : Fin 4)).val : Int) := rowWords_apply _
  have s3 : dims.start k rowWords (3 : Fin 4) = 0 := rfl
  have w0 : dims.window k (0 : Fin 4) = (k (0 : Fin 4)).val := rfl
  have w1 : dims.window k (1 : Fin 4) = (k (1 : Fin 4)).val := rfl
  have w2 : dims.window k (2 : Fin 4) = 0 := rfl
  have w3 : dims.window k (3 : Fin 4) = (k (3 : Fin 4)).val := rfl
  refine forall_congr' fun a => ?_
  match a with
  | 0 => rw [s0, w0]; omega
  | 1 => rw [s1, w1]; omega
  | 2 => rw [s2, w2]; omega
  | 3 => rw [s3, w3]; omega

/-- The eight rows returned are the new rows. -/
theorem value {α : Type} (cache : S16x8x4096x128.Idx → α) (new : S16x8x8x128.Idx → α) :
    extractStridedSlice S16x8x8x128 ![0, 0, 0, 0] (Host.scatter dims (fun _ b => b) cache rowWords new) slices_S16x8x4096x128_S16x8x8x128_0_0_0_0 = new := by
  funext i
  refine scatter_set_hit dims cache rowWords new _ (new i) (fun k hk => ?_) i ?_
  · have h := (lands k _).mp hk
    refine congrArg new (funext fun a => Fin.ext ?_)
    match a with
    | 0 => exact (h 0).trans (Nat.zero_add _)
    | 1 => exact (h 1).trans (Nat.zero_add _)
    | 2 => exact (h 2).trans (Nat.zero_add _)
    | 3 => exact (h 3).trans (Nat.zero_add _)
  · rw [lands]
    intro a
    match a with
    | 0 => exact (Nat.zero_add _).symm
    | 1 => exact (Nat.zero_add _).symm
    | 2 => exact (Nat.zero_add _).symm
    | 3 => exact (Nat.zero_add _).symm

/-- At ideal float values, from memory `m`, the reference's two results are its first two arguments, and its arguments are unchanged. -/
theorem run_ideal (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v16) = m ((c.tc : Thread nD τ).loc main_arg0)
      ∧ r.2.mem ((c.tc : Thread nD τ).loc main_v17) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (value _ _), (h c).2.1.trans (value _ _), (h c).2.2⟩) (Cert.ReferenceIdeal.Value.run m ρ)

/-- The same on float bit patterns. -/
theorem run_bits (m : (ℓ : Loc Cert.Reference.nD Cert.Reference.τ Cert.Reference.sig) → Buf (Elt Bits) ℓ) (ρ : Dev Cert.Reference.nD → PrngReg) :
    θ_run (Cert.Reference.defs (F := Bits)) (onTc (τ := Cert.Reference.τ) (Cert.Reference.main (F := Bits))) ⟨m, fun _ => 0, ρ⟩ fun r => ∀ c : Dev Cert.Reference.nD,
      r.2.mem ((c.tc : Thread Cert.Reference.nD Cert.Reference.τ).loc Cert.Reference.main_v16) = m ((c.tc : Thread Cert.Reference.nD Cert.Reference.τ).loc Cert.Reference.main_arg0)
      ∧ r.2.mem ((c.tc : Thread Cert.Reference.nD Cert.Reference.τ).loc Cert.Reference.main_v17) = m ((c.tc : Thread Cert.Reference.nD Cert.Reference.τ).loc Cert.Reference.main_arg1)
      ∧ r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3) :=
  (θ_run _ _ _).mono (fun _ h c => ⟨(h c).1.trans (value _ _), (h c).2.1.trans (value _ _), (h c).2.2⟩) (Cert.Reference.Value.run m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem

/-- The idealized kernel runs to its end, leaves its four arguments unchanged and every semaphore at zero. -/
theorem frame_kernelIdeal : Cert.quiescent_KernelIdeal := fun m ρ _ =>
  (θ_run Cert.KernelIdeal.defs _ _).mono (fun _ h => ⟨fun c => (h.1 c).2.2, h.2⟩) (Rows.run_main (F := Ideal) m ρ)

/-- The kernel on float bit patterns runs to its end, leaves its four arguments unchanged and every semaphore at zero. -/
theorem frame_kernel : Cert.quiescent_Kernel := fun m ρ _ =>
  (θ_run Cert.KernelIdeal.defs _ _).mono (fun _ h => ⟨fun c => (h.1 c).2.2, h.2⟩) (Rows.run_main (F := Bits) m ρ)

/-- The idealized reference runs to its end, leaves its arguments unchanged and every semaphore at zero. -/
theorem frame_referenceIdeal : Cert.quiescent_ReferenceIdeal := fun m ρ _ =>
  (θ_run Cert.ReferenceIdeal.defs _ _).mono (fun r h => ⟨fun c => (h c).2.2, sem_eq_zero_of_no_sems (by decide) r.2⟩) (Ref.run_ideal m ρ)

/-- The reference on float bit patterns runs to its end, leaves its arguments unchanged and every semaphore at zero. -/
theorem frame_reference : Cert.quiescent_Reference := fun m ρ _ =>
  (θ_run Cert.Reference.defs _ _).mono (fun r h => ⟨fun c => (h c).2.2, sem_eq_zero_of_no_sems (by decide) r.2⟩) (Ref.run_bits m ρ)

/-- The idealized kernel is the kernel's own text: no operation was rewritten. -/
theorem preserves : Cert.preserves_Kernel_KernelIdeal := trivial

/-- On ideal values, from equal arguments, the kernel and the reference end with equal results: the first two arguments. -/
theorem algebraic : Cert.algebraic_KernelIdeal_ReferenceIdeal := fun m ρ m' ρ' _ hm =>
  ⟨fun c => m (Rows.a0Loc c), fun c => m (Rows.a1Loc c),
    (θ_run Cert.KernelIdeal.defs _ _).mono (fun _ h => h.1) (Rows.run_main (F := Ideal) m ρ),
    (θ_run Cert.ReferenceIdeal.defs _ _).mono (fun _ h c => ⟨(h c).1.trans (hm c).1, (h c).2.1.trans (hm c).2.1, (h c).2.2⟩) (Ref.run_ideal m' ρ')⟩

/-- On float bit patterns, from equal arguments, the kernel and the reference end with equal results, bit for bit. -/
theorem bitexact : Cert.bitexact_Kernel_Reference := fun m ρ m' ρ' _ hm =>
  ⟨fun c => m (Rows.a0Loc c), fun c => m (Rows.a1Loc c),
    (θ_run Cert.KernelIdeal.defs _ _).mono (fun _ h => h.1) (Rows.run_main (F := Bits) m ρ),
    (θ_run Cert.Reference.defs _ _).mono (fun _ h c => ⟨(h c).1.trans (hm c).1, (h c).2.1.trans (hm c).2.1, (h c).2.2⟩) (Ref.run_bits m' ρ')⟩

/-- Every claim of the certificate. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, preserves, algebraic, bitexact⟩

end Cert.Proof

end
